-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x1024 : Shape := ⟨3, ![8, 2048, 1024]⟩
abbrev S8 : Shape := ⟨1, ![8]⟩
abbrev S8x1024x2048 : Shape := ⟨3, ![8, 1024, 2048]⟩
abbrev S8x1024x1024 : Shape := ⟨3, ![8, 1024, 1024]⟩
abbrev S1x256x2048 : Shape := ⟨3, ![1, 256, 2048]⟩
abbrev S1 : Shape := ⟨1, ![1]⟩
abbrev S1x256x1024 : Shape := ⟨3, ![1, 256, 1024]⟩
abbrev S256x1 : Shape := ⟨2, ![256, 1]⟩
abbrev S256x1024 : Shape := ⟨2, ![256, 1024]⟩
abbrev S_ : Shape := ⟨0, ![]⟩

abbrev nBuf : Space → Nat
  | .hbm => 24
  | .vmem => 4
  | .smem => 1
  | _ => 0

abbrev bufTy : (tb : Table) → Fin (tcTables nBuf tb) → BufTy
  | .hbm, ⟨0, _⟩ => ⟨S8x2048x1024, .f32⟩
  | .hbm, ⟨1, _⟩ => ⟨S8x1024x2048, .f32⟩
  | .hbm, ⟨2, _⟩ => ⟨S8x1024x1024, .f32⟩
  | .hbm, ⟨3, _⟩ => ⟨S_, .i32⟩
  | .hbm, ⟨4, _⟩ => ⟨S8, .i32⟩
  | .hbm, ⟨5, _⟩ => ⟨S8, .i32⟩
  | .hbm, ⟨6, _⟩ => ⟨S_, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i1⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S8, .i1⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S8, .i32⟩
  | .local _ .vmem, ⟨0, _⟩ => ⟨S1x256x2048, .f32⟩
  | .local _ .vmem, ⟨1, _⟩ => ⟨S1x256x2048, .f32⟩
  | .local _ .vmem, ⟨2, _⟩ => ⟨S1x256x1024, .f32⟩
  | .local _ .vmem, ⟨3, _⟩ => ⟨S1x256x1024, .f32⟩
  | .local _ .smem, ⟨0, _⟩ => ⟨S8, .i32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v4 : Ref sig .tc := ⟨.hbm, 23, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c1_i32 : BitVec 32 := 1#32
  let v2 : BitVec 32 := Scalar.addi v1 c1_i32
  let c2_i32 : BitVec 32 := 2#32
  let v3 : BitVec 32 := Scalar.divsi v2 c2_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c255_i32 : BitVec 32 := 255#32
  let v20 : BitVec 32 := Scalar.addi v19 c255_i32
  let c256_i32 : BitVec 32 := 256#32
  let v21 : BitVec 32 := Scalar.divsi v20 c256_i32
  let c1_i32_5 : BitVec 32 := 1#32
  let v22 : BitVec 32 := Scalar.subi v21 c1_i32_5
  let c0_i32_6 : BitVec 32 := 0#32
  let v23 : BitVec 32 := Scalar.maxsi v22 c0_i32_6
  let v24 : BitVec 32 := Scalar.minsi arg1 v23
  let c0_i32_7 : BitVec 32 := 0#32
  let c0_i32_8 : BitVec 32 := 0#32
  ![arg0.toNat, v24.toNat, c0_i32_7.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S8x2048x1024 : Shape := ⟨3, ![8, 2048, 1024]⟩
abbrev S8 : Shape := ⟨1, ![8]⟩
abbrev S8x1024x1024 : Shape := ⟨3, ![8, 1024, 1024]⟩
abbrev S_ : Shape := ⟨0, ![]⟩
abbrev S1024 : Shape := ⟨1, ![1024]⟩
abbrev S1x1024 : Shape := ⟨2, ![1, 1024]⟩
abbrev S8x1 : Shape := ⟨2, ![8, 1]⟩
abbrev S8x1024 : Shape := ⟨2, ![8, 1024]⟩
abbrev S8x1024x1 : Shape := ⟨3, ![8, 1024, 1]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8, .i32⟩
  | .hbm, ⟨2, _⟩ => ⟨S8x1024x1024, .f32⟩
  | .hbm, ⟨3, _⟩ => ⟨S_, .i32⟩
  | .hbm, ⟨4, _⟩ => ⟨S8, .i32⟩
  | .hbm, ⟨5, _⟩ => ⟨S8, .i32⟩
  | .hbm, ⟨6, _⟩ => ⟨S_, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i1⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S8, .i1⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S8, .i32⟩
  | .hbm, ⟨24, _⟩ => ⟨S1024, .i32⟩
  | .hbm, ⟨25, _⟩ => ⟨S1x1024, .i32⟩
  | .hbm, ⟨26, _⟩ => ⟨S8x1, .i32⟩
  | .hbm, ⟨27, _⟩ => ⟨S8x1024, .i32⟩
  | .hbm, ⟨28, _⟩ => ⟨S8x1024, .i32⟩
  | .hbm, ⟨29, _⟩ => ⟨S8x1024, .i1⟩
  | .hbm, ⟨30, _⟩ => ⟨S8x1024x1, .i1⟩
  | .hbm, ⟨31, _⟩ => ⟨S8x1024x1, .f32⟩
  | .hbm, ⟨32, _⟩ => ⟨S8x1024x1024, .f32⟩
  | .hbm, ⟨33, _⟩ => ⟨S8x1024x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩

abbrev nD : Nat := 1
abbrev τ : Topo := Topo.v7x

variable {F : FTy → Type} [FloatOps F]
-- ==== Proof.Words.lean ====
/-
  The integer arithmetic of one sequence's length, on 32-bit words.

  A sequence of length `w` has `(w + 1) / 2` kept time steps, the quotient rounded down. The kernel's body, its
  index map and the host operations each compute that number from the word `w` by their own operations; here each is shown to be the
  word of the same integer. The index map then names the block of 256 rows to read: the block `j` itself wherever a row
  of block `j` is kept, some block of the array in any case.
-/
module

public import Idealize.ShloMosaic.PureOps.Ideal
public import Idealize.ShloMosaic.Lib.WordCmp

@[expose] public section

namespace Cert.Proof.Words

open Idealize.ShloMosaic Idealize.ShloMosaic.WordCmp

/-- The kept time steps of a sequence whose length is the word `w`, as the kernel computes them: the quotient rounded toward zero,
    less one where it must round down instead. -/
def kept (w : BitVec 32) : BitVec 32 :=
  let x : BitVec 32 := Scalar.addi w 1#32
  let sx : BitVec 32 := Scalar.subi (Scalar.extui (Scalar.cmpi .sgt x 0#32)) (Scalar.extui (Scalar.cmpi .slt x 0#32))
  let s2 : BitVec 32 := Scalar.subi (Scalar.extui (Scalar.cmpi .sgt 2#32 0#32)) (Scalar.extui (Scalar.cmpi .slt 2#32 0#32))
  Scalar.select (Scalar.andi (Scalar.cmpi .ne sx s2) (Scalar.cmpi .ne (Scalar.remsi x 2#32) 0#32))
    (Scalar.subi (Scalar.divsi x 2#32) 1#32) (Scalar.divsi x 2#32)

/-- The same number as the host operations compute it on one element of the lengths. -/
def hostKept (w : BitVec 32) : BitVec 32 :=
  let x : BitVec 32 := IntOp.addi w 1#32
  Scalar.select
    (IntOp.andi
      (IntOp.cmpi (w := 32) .ne (if x = 0 then 0 else if x.msb then -1 else 1) (if (2#32 : BitVec 32) = 0 then 0 else if (2#32 : BitVec 32).msb then -1 else 1))
      (IntOp.cmpi .ne (IntOp.remsi .host x 2#32) 0#32))
    (IntOp.subi (IntOp.divsi .host x 2#32) 1#32) (IntOp.divsi .host x 2#32)

/-- The block of 256 rows the kernel's index map names for the `j`-th block of a sequence of length `w`: `j`, or the last block
    holding a kept row if that comes earlier. -/
def blockRow (w j : BitVec 32) : BitVec 32 :=
  Scalar.minsi j (Scalar.maxsi (Scalar.subi (Scalar.divsi (Scalar.addi (kept w) 255#32) 256#32) 1#32) 0#32)

/-- Division by two is no corner case of the signed division. -/
theorem not_corner_two (x : BitVec 32) : ¬ IntOp.SDivCorner x 2#32 := by
  unfold IntOp.SDivCorner; rintro (h | ⟨-, h⟩) <;> exact absurd h (by decide)

/-- Nor is division by 256. -/
theorem not_corner_256 (x : BitVec 32) : ¬ IntOp.SDivCorner x 256#32 := by
  unfold IntOp.SDivCorner; rintro (h | ⟨-, h⟩) <;> exact absurd h (by decide)

/-- The bounds of a 32-bit word read as a signed integer. -/
theorem toInt_bounds (x : BitVec 32) : -2147483648 ≤ x.toInt ∧ x.toInt < 2147483648 := by
  have h1 := BitVec.le_toInt x
  have h2 := BitVec.toInt_lt (x := x)
  norm_num at h1 h2
  exact ⟨h1, h2⟩

/-- The quotient rounded toward zero: the floor of a dividend that is not negative, the mirrored floor of a negative one. -/
theorem tdiv_cases (a n : ℤ) : (0 ≤ a → a.tdiv n = a / n) ∧ (a < 0 → a.tdiv n = -((-a) / n)) := by
  refine ⟨fun h => Int.tdiv_eq_ediv_of_nonneg h, fun h => ?_⟩
  rw [← Int.tdiv_eq_ediv_of_nonneg (by omega : 0 ≤ -a), Int.neg_tdiv, neg_neg]

/-- The quotient by two, rounded toward zero, on any unit. -/
theorem toInt_divsi_two (u : ArithUnit) (x : BitVec 32) : (IntOp.divsi u x 2#32).toInt = x.toInt.tdiv 2 := by
  unfold IntOp.divsi
  rw [if_neg (not_corner_two x), BitVec.toInt_sdiv, show (2#32 : BitVec 32).toInt = 2 from by decide]
  have hb := toInt_bounds x
  have ht := tdiv_cases x.toInt 2
  apply Int.bmod_eq_of_le <;> omega

/-- The remainder of the division by two, on any unit. -/
theorem toInt_remsi_two (u : ArithUnit) (x : BitVec 32) : (IntOp.remsi u x 2#32).toInt = x.toInt.tmod 2 := by
  unfold IntOp.remsi
  rw [if_neg (not_corner_two x), BitVec.toInt_srem, show (2#32 : BitVec 32).toInt = 2 from by decide]

/-- The quotient by 256, rounded toward zero. -/
theorem toInt_divsi_256 (u : ArithUnit) (x : BitVec 32) : (IntOp.divsi u x 256#32).toInt = x.toInt.tdiv 256 := by
  unfold IntOp.divsi
  rw [if_neg (not_corner_256 x), BitVec.toInt_sdiv, show (256#32 : BitVec 32).toInt = 256 from by decide]
  have hb := toInt_bounds x
  have ht := tdiv_cases x.toInt 256
  apply Int.bmod_eq_of_le <;> omega

/-- A word less one, away from the least word. -/
theorem toInt_sub_one (x : BitVec 32) (h : -2147483648 < x.toInt) : (IntOp.subi x 1#32).toInt = x.toInt - 1 := by
  unfold IntOp.subi
  rw [BitVec.toInt_sub, show (1#32 : BitVec 32).toInt = 1 from by decide]
  have hb := toInt_bounds x
  apply Int.bmod_eq_of_le <;> omega

/-- Choosing between the quotient less one and the quotient, under a bit that says the dividend is not positive and the remainder is not zero, is
    the quotient rounded down. -/
theorem toInt_select_floor (u : ArithUnit) (x : BitVec 32) (b : BitVec 1) (hb : b = BitVec.ofBool (decide (¬ 0 < x.toInt))) :
    (Scalar.select (IntOp.andi b (IntOp.cmpi .ne (IntOp.remsi u x 2#32) 0#32)) (IntOp.subi (IntOp.divsi u x 2#32) 1#32)
      (IntOp.divsi u x 2#32)).toInt = x.toInt / 2 := by
  have hx := toInt_bounds x
  have hq := toInt_divsi_two u x
  have hr := toInt_remsi_two u x
  have ht := tdiv_cases x.toInt 2
  have hm := Int.tmod_def x.toInt 2
  have hne : (IntOp.remsi u x 2#32 ≠ 0#32) ↔ x.toInt.tmod 2 ≠ 0 := by
    rw [← hr, ne_eq, ne_eq, ← BitVec.toInt_inj, show (0#32 : BitVec 32).toInt = 0 from by decide]
  rw [hb, cmpi_ne_eq, andi_ofBool, ← Bool.decide_and]
  unfold Scalar.select
  split
  · rename_i h
    rw [ofBool_eq_one_iff', decide_eq_true_iff, hne] at h
    rw [toInt_sub_one _ (by rw [hq]; omega), hq]
    omega
  · rename_i h
    rw [ofBool_eq_one_iff', decide_eq_true_iff, hne] at h
    rw [hq]
    omega

/-- The kernel's bit "the signs differ" says that the dividend is not positive. -/
theorem kernel_sign (x : BitVec 32) :
    Scalar.cmpi .ne (Scalar.subi (Scalar.extui (Scalar.cmpi .sgt x 0#32)) (Scalar.extui (Scalar.cmpi .slt x 0#32)))
      (Scalar.subi (Scalar.extui (Scalar.cmpi .sgt 2#32 0#32)) (Scalar.extui (Scalar.cmpi .slt 2#32 0#32)))
      = BitVec.ofBool (decide (¬ 0 < x.toInt)) := by
  unfold Scalar.cmpi
  rw [cmpi_sgt_eq, cmpi_slt_eq, BitVec.toInt_zero]
  by_cases h : 0 < x.toInt
  · rw [decide_eq_true h, decide_eq_false (by omega : ¬ x.toInt < 0), decide_eq_false (not_not.mpr h)]; decide
  · by_cases h' : x.toInt < 0
    · rw [decide_eq_false h, decide_eq_true h', decide_eq_true h]; decide
    · rw [decide_eq_false h, decide_eq_false h', decide_eq_true h]; decide

/-- So does the host's. -/
theorem host_sign (x : BitVec 32) :
    IntOp.cmpi (w := 32) .ne (if x = 0 then 0 else if x.msb then -1 else 1) (if (2#32 : BitVec 32) = 0 then 0 else if (2#32 : BitVec 32).msb then -1 else 1)
      = BitVec.ofBool (decide (¬ 0 < x.toInt)) := by
  have hm : x.msb = decide (x.toInt < 0) := BitVec.msb_eq_toInt
  have hz : x = 0 ↔ x.toInt = 0 := by rw [← BitVec.toInt_inj]; simp
  by_cases h : 0 < x.toInt
  · rw [if_neg (fun e => by rw [hz] at e; omega), hm, decide_eq_false (by omega : ¬ x.toInt < 0), decide_eq_false (not_not.mpr h)]; decide
  · rw [decide_eq_true h]
    by_cases h' : x.toInt < 0
    · rw [if_neg (fun e => by rw [hz] at e; omega), hm, decide_eq_true h']; decide
    · rw [if_pos (hz.mpr (by omega))]; decide

/-- The kernel's number of kept steps, as an integer: half the length plus one, rounded down. -/
theorem toInt_kept (w : BitVec 32) : (kept w).toInt = (w + 1#32).toInt / 2 :=
  toInt_select_floor .scalar (w + 1#32) _ (kernel_sign (w + 1#32))

/-- The host's, the same integer. -/
theorem toInt_hostKept (w : BitVec 32) : (hostKept w).toInt = (w + 1#32).toInt / 2 :=
  toInt_select_floor .host (w + 1#32) _ (host_sign (w + 1#32))

/-- The kernel and the host compute the same word. -/
theorem kept_eq_hostKept (w : BitVec 32) : kept w = hostKept w :=
  BitVec.eq_of_toInt_eq ((toInt_kept w).trans (toInt_hostKept w).symm)

/-- The greater of a word and zero, as an integer. -/
theorem toInt_maxsi_zero (x : BitVec 32) : (Scalar.maxsi x 0#32).toInt = max x.toInt 0 := by
  show (if (0#32).slt x then x else 0#32).toInt = _
  rw [BitVec.slt_eq_decide, BitVec.toInt_zero]
  by_cases h : 0 < x.toInt
  · rw [if_pos (decide_eq_true h)]; omega
  · rw [if_neg (by rw [decide_eq_false h]; decide), BitVec.toInt_zero]; omega

/-- The last block holding a kept row (0 if there is none), as an integer. -/
theorem toInt_lastBlock (w : BitVec 32) :
    (Scalar.maxsi (Scalar.subi (Scalar.divsi (Scalar.addi (kept w) 255#32) 256#32) 1#32) 0#32).toInt
      = max (((w + 1#32).toInt / 2 + 255).tdiv 256 - 1) 0 := by
  have hk := toInt_kept w
  have hw := toInt_bounds (w + 1#32)
  have ha : (Scalar.addi (kept w) 255#32).toInt = (w + 1#32).toInt / 2 + 255 := by
    show (kept w + 255#32).toInt = _
    rw [BitVec.toInt_add, hk, show (255#32 : BitVec 32).toInt = 255 from by decide]
    apply Int.bmod_eq_of_le <;> omega
  have hd : (Scalar.divsi (Scalar.addi (kept w) 255#32) 256#32).toInt = ((w + 1#32).toInt / 2 + 255).tdiv 256 := by
    show (IntOp.divsi .scalar _ _).toInt = _
    rw [toInt_divsi_256, ha]
  rw [toInt_maxsi_zero]
  have hs : (Scalar.subi (Scalar.divsi (Scalar.addi (kept w) 255#32) 256#32) 1#32).toInt = ((w + 1#32).toInt / 2 + 255).tdiv 256 - 1 := by
    show (IntOp.subi _ 1#32).toInt = _
    have ht := tdiv_cases ((w + 1#32).toInt / 2 + 255) 256
    rw [toInt_sub_one _ (by rw [hd]; omega), hd]
  rw [hs]

/-- The block read for block `j`, as an integer. -/
theorem toInt_blockRow (w : BitVec 32) (j : ℕ) (hj : j < 4) :
    (blockRow w (BitVec.ofNat 32 j)).toInt = min (j : ℤ) (max (((w + 1#32).toInt / 2 + 255).tdiv 256 - 1) 0) := by
  show (if (BitVec.ofNat 32 j).slt _ then _ else _ : BitVec 32).toInt = _
  have hjI : (BitVec.ofNat 32 j).toInt = j := toInt_ofNat_of_lt (by omega)
  rw [BitVec.slt_eq_decide, toInt_lastBlock, hjI]
  by_cases h : (j : ℤ) < max (((w + 1#32).toInt / 2 + 255).tdiv 256 - 1) 0
  · rw [if_pos (decide_eq_true h), hjI]; omega
  · rw [if_neg (by rw [decide_eq_false h]; decide), toInt_lastBlock]; omega

/-- The block read never lies beyond block `j`, whatever the length. -/
theorem toNat_blockRow_le (w : BitVec 32) (j : ℕ) (hj : j < 4) : (blockRow w (BitVec.ofNat 32 j)).toNat ≤ j := by
  have h := toInt_blockRow w j hj
  have hn := toInt_eq_toNat_of_lt_half ((toInt_nonneg_iff_lt_half (blockRow w (BitVec.ofNat 32 j))).mp (by rw [h]; omega))
  omega

/-- Where row `r` of block `j` is kept, the block read is block `j`. -/
theorem toNat_blockRow_of_kept (w : BitVec 32) (j r : ℕ) (hj : j < 4) (hr : r < 256) (hk : ((256 * j + r : ℕ) : ℤ) < (kept w).toInt) :
    (blockRow w (BitVec.ofNat 32 j)).toNat = j := by
  have h := toInt_blockRow w j hj
  have hn := toInt_eq_toNat_of_lt_half ((toInt_nonneg_iff_lt_half (blockRow w (BitVec.ofNat 32 j))).mp (by rw [h]; omega))
  rw [toInt_kept] at hk
  have ht := (tdiv_cases ((w + 1#32).toInt / 2 + 255) 256).1 (by omega)
  omega

end Cert.Proof.Words
-- ==== Proof.IdealBody.lean ====
/-
  Of the idealized kernel. One run of the kernel's body: what it reads, and what it leaves in the output's staging buffer.
-/
module

public import proofs.«01_k».proof.Proof.Words
public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.VecWindow

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The lengths as the body is handed them: the whole of the prefetched table. -/
abbrev lenM : Memref sig .tc .smem S8 .i32 := Memref.whole main_arg1

/-- The table's contents on core `c`, and the table held whole at them. -/
abbrev LenBuf (c : Dev nD) {S : Shape} {e : EltTy} (M : Memref sig .tc .smem S e) : Type := Buf (Elt F) (M.view.loc (c : Thread nD τ))
abbrev lenPt (c : Dev nD) {S : Shape} {e : EltTy} (M : Memref sig .tc .smem S e) (f : LenBuf (F := F) c M) : sProp 𝕄 :=
  M.view.loc (c : Thread nD τ) ↦{fullShare} f

/-- The length of the sequence that grid point `i` works on. -/
def word (T : (⟨S8, .i32⟩ : BufTy).Contents (Elt F)) (i : grid0.Coords) : BitVec 32 :=
  T ((Rect.unit (s := S8) (k0_off1 i) S1.size (k0_off1_inb i)).emb (Shape.Idx.first (numel1_S1.symm ▸ Nat.one_pos)))

/-- The first 1024 lanes of the rows in an input block. -/
def lanes (x : Vec F S1x256x2048 .f32) : Vec F S1x256x1024 .f32 :=
  fun y => x ((Rect.unit (s := S1x256x2048) ![0, 0, 0] S1x256x1024.size inb_S1x256x2048_S1x256x1024_0_0_0).emb y)

set_option maxHeartbeats 1000000 in
/-- The body runs from the input block `x`, the lengths `T` and any contents of the output's buffer to the block it computes in that buffer, the others as they were. -/
theorem body_run (c : Dev nD) (i : grid0.Coords) (arg3 : Memref sig .tc .vmem S1x256x2048 .f32) (harg3 : arg3.IsWhole)
    (arg4 : Memref sig .tc .vmem S1x256x1024 .f32) (harg4 : arg4.IsWhole) (x : Vec F S1x256x2048 .f32) (T : LenBuf (F := F) c lenM)
    (E : Set ℕ) (K : PUnit → sProp 𝕄) :
    iprop(owns (c : Thread nD τ) arg3 fullShare x ∗ (∃ d, owns (c : Thread nD τ) arg4 fullShare d) ∗ lenPt c lenM T
        ∗ (iprop(owns (c : Thread nD τ) arg3 fullShare x ∗ owns (c : Thread nD τ) arg4 fullShare (k0_pay1 i (word T i) (lanes x)) ∗ lenPt c lenM T) -∗ K ⟨⟩))
      ⊢ wp frame (wpE (defs₀ (F := F)) Variants.none c none) E (cc0__tc_body i lenM (Memref.isWhole_whole _) arg3 harg3 arg4 harg4) K := by
  simp only [cc0__tc_body_eq_skeleton]; unfold cc0__tc_body_skel
  unfold owns
  iintro ⟨⟨%f0, %hf0, H0⟩, ⟨%d1, %f1, -, H1⟩, HT, Hk⟩
  obtain rfl := harg3.eq_unread hf0
  sl_exec
  sl_step
  iapply Hk
  isplitl [H0]
  · iexists _; isplitr; · ipureintro; exact harg3.read_unread _
    iexact H0
  isplitl [H1]
  · iexists _; isplitr
    swap; · iexact H1
    ipureintro
    refine (View.read_writes_full arg4.view f1 _ _ _).trans (congrArg (k0_pay1 i (word T i)) ?_)
    exact (View.readAt_unit arg3.view _ _ rfl inb_S1x256x2048_S1x256x1024_0_0_0).trans (congrArg lanes hf0)
  iexact HT

end Cert.Proof.KernelIdeal

end
-- ==== Proof.IdealData.lean ====
/-
  Of the idealized kernel. The pipeline's proof data: the input's index map stays inside the array whatever the lengths are, what each buffer holds at each grid point, and
  the body at any point.
-/
module

public import proofs.«01_k».proof.Proof.IdealBody
public import Idealize.ShloMosaic.Lib.Pipeline.RegionArraysTS

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The index map of the input, and the side condition on the table -/

/-- The input's index map at any table: the sequence, and the block of rows that the sequence's length and the grid's second coordinate name. -/
theorem transform_0_eq (pf : pre0.Contents (Elt F)) (i : grid0.Coords) :
    cc0_transform_0 k0_off1_inb numel1_S1 pf i
      = ![(BitVec.ofNat 32 (i 0).val).toNat, (Words.blockRow (word (pf 0) i) (BitVec.ofNat 32 (i 1).val)).toNat, 0] := rfl

/-- Both grid coordinates are below the machine word's bound, so reading them as words changes nothing. -/
theorem toNat_coord0 (i : grid0.Coords) : (BitVec.ofNat 32 (i 0).val).toNat = (i 0).val := by
  have h : (i 0).val < 8 := (i 0).isLt
  rw [BitVec.toNat_ofNat]; omega

/-- Whatever the lengths are, every block the input's index map names lies inside the array. -/
theorem ok_all (pf : pre0.Contents (Elt F)) : ok0 pf := fun i =>
  ⟨fun a => by
    have h0 : (i 0).val < 8 := (i 0).isLt
    have h1 : (i 1).val < 4 := (i 1).isLt
    have hb := Words.toNat_blockRow_le (word (pf 0) i) (i 1).val h1
    rw [transform_0_eq]
    have h := toNat_coord0 i
    match a with
    | ⟨0, _⟩ => show ((BitVec.ofNat 32 (i 0).val).toNat + 1) * 1 ≤ 8; omega
    | ⟨1, _⟩ => show ((Words.blockRow (word (pf 0) i) (BitVec.ofNat 32 (i 1).val)).toNat + 1) * 256 ≤ 1024; omega
    | ⟨2, _⟩ => show (0 + 1) * 2048 ≤ 2048; omega, .inl rfl⟩

variable (m : (ℓ : Loc nD τ sig) → Buf (Elt F) ℓ)

/-! ## The contents at the region's entry -/

/-- Every buffer of device `c` when the region is entered: as launched, but for the values written again as half as many rows of twice the length. -/
def entry (c : Dev nD) : Valuation τ sig (Elt F) := StableHlo.after hostOps0 (StableHlo.launchContents m c)

/-- The lengths as launched. -/
def lens : (⟨S8, .i32⟩ : BufTy).Contents (Elt F) := m (((0 : Dev nD) : Thread nD τ).loc main_arg1)

/-- The table's contents the region reads: the lengths as launched. -/
def table : pre0.Contents (Elt F) := fun
  | 0 => lens m
  | ⟨_ + 1, h⟩ => absurd h (Nat.not_lt.2 (Nat.le_add_left _ _))

/-- The same as admissible contents, and the pipeline at them. -/
abbrev adm : (pcfg0 (F := F)).Adm := ⟨table m, ok_all _⟩
abbrev cfgM : Cfg sig Λ₀ := cfg0 (adm m)

/-- The region finds the lengths as launched. -/
theorem entry_arg1 (c : Dev nD) : entry m c (Proc.devRef .tc main_arg1) = lens m := by
  obtain rfl : c = 0 := Subsingleton.elim _ _
  refine (StableHlo.after_of_forall_not_mem (b := Proc.devRef .tc main_arg1) _ _ ?_).trans rfl
  refine List.forall_iff_forall_mem.mp ?_
  simp only [List.Forall, StableHlo.reshape_writes, Finset.mem_singleton]
  exact StableHlo.devRef_ne_of_ne (by decide)

/-- The region finds the values as launched. -/
theorem entry_arg0 (c : Dev nD) : entry m c (Proc.devRef .tc main_arg0) = m ((c : Thread nD τ).loc main_arg0) := by
  refine (StableHlo.after_of_forall_not_mem (b := Proc.devRef .tc main_arg0) _ _ ?_).trans rfl
  refine List.forall_iff_forall_mem.mp ?_
  simp only [List.Forall, StableHlo.reshape_writes, Finset.mem_singleton]
  exact StableHlo.devRef_ne_of_ne (by decide)

/-! ## The proof data -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (entry m c (Proc.devRef .tc (Pipeline.arrRef spec0 w)))

/-- What the body leaves in the output's staging buffer at point `t`. -/
def oblk (c : Dev nD) (t : Fin (cfgM m).N) : Vec F S1x256x1024 .f32 :=
  k0_pay1 (grid0.coords t) (word (lens m) (grid0.coords t)) (lanes (iblk m c 0 t))

/-- The table held whole. -/
abbrev tablePt (c : Dev nD) : sProp 𝕄 := Pipeline.prefHeld pre0 c (fun _ => fullShare) (table m)

/-- The proof data of the pipeline on core `c`: the arrays as the region finds them; after the body at point `t` the input's buffer at its block
    and the output's at `oblk`; between points the scoped buffers no window stages, the generator register and the table whole; nothing owed. -/
def dats (_ : Fin 1) (c : Dev nD) : Dat τ (Elt F) Unit ℕ (UR sig nD τ) ℕ (cfgM m) c where
  A w := entry m c (Proc.devRef .tc (Pipeline.arrRef spec0 w))
  after w t := match w with
    | ⟨0, _⟩ => iblk m c 0 t
    | ⟨1, _⟩ => oblk m c t
  Φ _ := iprop(iprop(Pipeline.scopedRest spec0 c ∗ ∃ r, prngReg c r) ∗ tablePt m c)
  q _ := fullShare
  owed _ := 0

theorem A_eq (c : Dev nD) (w : Fin (cfgM m).W) : (dats m 0 c).A w = entry m c (Proc.devRef .tc (Pipeline.arrRef spec0 w)) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = oblk m c t := by dsimp only [dats]; try rfl

/-- The input's staging buffer holds its block at every point, whether it was fetched there or left from the point before. -/
theorem before_0 (c : Dev nD) (t : Fin (cfgM m).N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The table held whole is the body's own way of holding it. -/
theorem tablePt_eq (c : Dev nD) : tablePt m c = lenPt (F := F) c lenM (lens m) := by
  unfold tablePt Pipeline.prefHeld
  rw [show (Finset.univ : Finset (Fin 1)) = {(0 : Fin 1)} from by decide, bigSep_singleton]
  rfl

/-! ## The body obligation -/

/-- The kernel body at point `t`, on the staging buffers the pipeline calls it with. -/
abbrev bodyAt (t : Fin (cfgM m).N) : Prog (TpuEff nD τ sig (Elt F) Λ₀ .tc) PUnit :=
  cc0__tc_body (grid0.coords t) lenM (Memref.isWhole_whole _) (spec0_0.stage ((cfgM m).slots t 0)) (hstage0_0 (((cfgM m).slots t 0).cast nbuf0_0))
    (spec0_1.stage ((cfgM m).slots t 1)) (hstage0_1 (((cfgM m).slots t 1).cast nbuf0_1))

/-- What the body is called with, and what it returns. -/
def bodyPre (c : Dev nD) (t : Fin (cfgM m).N) : sProp 𝕄 :=
  iprop((dats m 0 c).Φ t.castSucc ∗ (dats m 0 c).owesAt () t.castSucc
    ∗ (∃ d, owns (c : Thread nD τ) (spec0_0.stage ((cfgM m).slots t 0)) fullShare ((dats m 0 c).before 0 t d))
    ∗ (∃ d, owns (c : Thread nD τ) (spec0_1.stage ((cfgM m).slots t 1)) fullShare ((dats m 0 c).before 1 t d)))
def bodyPost (c : Dev nD) (t : Fin (cfgM m).N) : sProp 𝕄 :=
  iprop((dats m 0 c).Φ t.succ ∗ (dats m 0 c).owesAt () t.succ
    ∗ owns (c : Thread nD τ) (spec0_0.stage ((cfgM m).slots t 0)) fullShare ((dats m 0 c).after 0 t)
    ∗ owns (c : Thread nD τ) (spec0_1.stage ((cfgM m).slots t 1)) fullShare ((dats m 0 c).after 1 t))

/-- The body at any point runs from the one to the other. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0]
  rw [show (dats m 0 c).Φ t.succ = (dats m 0 c).Φ t.castSucc from rfl,
    show (dats m 0 c).owesAt () t.succ = (dats m 0 c).owesAt () t.castSucc from rfl, after_0, after_1,
    show (dats m 0 c).Φ t.castSucc = iprop(iprop(Pipeline.scopedRest spec0 c ∗ ∃ r, prngReg c r) ∗ tablePt m c) from rfl, tablePt_eq]
  unfold oblk
  iintro ⟨⟨HΦ, HT⟩, Ho, ⟨%d0, H0⟩, ⟨%d1, H1⟩⟩
  iapply (body_run c (grid0.coords t) _ _ _ _ (iblk m c 0 t) (lens m) Set.univ _)
  isplitl [H0]; · iexact H0
  isplitl [H1]; · iexists _; iexact H1
  isplitl [HT]; · iexact HT
  iintro ⟨H0, H1, HT⟩
  isplitl [HΦ HT]
  · isplitl [HΦ]
    · iexact HΦ
    iexact HT
  isplitl [Ho]; · iexact Ho
  isplitl [H0]; · iexact H0
  iexact H1

theorem defs₀_row (t : Fin (cfgM m).N) :
    defs₀ (F := F) .tc (cfgM m).body ((cfgM m).bodyArgs t ((cfgM m).slots t)) = bodyAt m t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

end Cert.Proof.KernelIdeal

end
-- ==== Proof.IdealRun.lean ====
/-
  Of the idealized kernel. The whole program: the host's reshape, the region, and the host operations after it.
-/
module

public import proofs.«01_k».proof.Proof.IdealData
public import Idealize.ShloMosaic.Lib.Pipeline.FrameTail
public import Idealize.ShloMosaic.Lib.Claim

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf PCfg Seg HostSeg RegionSeg ucRefs sub_ucRefs cells launchToks pin)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every buffer after the region, and after the host operations that follow it. -/
def left (c : Dev nD) : Valuation τ sig (Elt F) := Pipeline.afterRegion (dats m 0 c) (entry m c)
def final (c : Dev nD) : Valuation τ sig (Elt F) := StableHlo.after hostOps1_1 (StableHlo.after hostOps1 (left m c))

/-- Every wait's index is assigned at each TensorCore semaphore, at level zero. -/
def levs (g : GSem nD τ sig) : Finset Unit := if g.1.2 = .tc then {()} else ∅

/-- What rides beside the buffers: the core owing nothing, and its generator register. -/
abbrev beside (c : Dev nD) : sProp 𝕄 :=
  iprop((∃ Wd, owes (c : Thread nD τ) (0 : CellTallies nD τ sig Unit) Wd) ∗ (∃ r, prngReg c r) ∗ emp)

/-- The table and the arrays as the region's entry has them. -/
theorem table_entry (c : Dev nD) (k : Fin 1) : table m k = entry m c (Proc.devRef .tc (pre0.ref k)) := by
  match k with
  | ⟨0, _⟩ => exact (entry_arg1 m c).symm

/-- The pipeline's waits are assigned, at the bottom level; nothing is owed. -/
theorem levs_cut : Pipeline.LevelCut (pcfgs (F := F)) (fun _ => adm m) () levs (fun _ _ => 0) (0 : Fin 1) (fun _ => 0) (fun _ => 0) :=
  ⟨fun _ _ _ => by unfold levs; rw [if_pos rfl]; exact Finset.mem_singleton_self _, fun _ _ _ => le_rfl, fun _ _ _ h => absurd h (lt_irrefl _)⟩

/-- Both arrays are held whole. -/
theorem share_full (c : Dev nD) (w : Fin (cfgM m).W) : (dats m 0 c).share w = fullShare := (dats m 0 c).share_full (fun _ => rfl) w

/-- What the region brings is what the body keeps between points, and what it takes back. -/
theorem enter (c : Dev nD) : iprop(iprop(Pipeline.scopedRest spec0 c ∗ ∃ r, prngReg c r) ∗ tablePt m c) ⊢ (dats m 0 c).Φ 0 := .rfl
theorem exit (c : Dev nD) : (dats m 0 c).Φ (Fin.last (cfgM m).N) ⊢ iprop(iprop(Pipeline.scopedRest spec0 c ∗ ∃ r, prngReg c r) ∗ tablePt m c) := .rfl

set_option backward.isDefEq.respectTransparency.types false in
/-- The region, entered and left with every unscoped buffer held. -/
def region : RegionSeg (pcfgs (F := F)) (fun _ => adm m) (dats m) () defs₀ Variants.none levs (fun _ _ => 0) 0 :=
  RegionSeg.ofHeldInT pcfgs (fun _ => adm m) (dats m) () defs₀ Variants.none levs (fun _ _ => 0) 0 (fun _ => 0)
    (ucRefs τ sig) (fun c => iprop(∃ r, prngReg c r)) (fun c => iprop(∃ r, prngReg c r)) launch0
    (fun c => (body_obligation m c).loose) (fun _ _ => rfl) (fun _ => rfl) (share_full m)
    (enter m) (exit m) (fun _ => 0) (levs_cut m) (fun _ => iprop(emp)) (entry m) (A_eq m) (table_entry m)

/-- The host operations before the region, those after it, and those of the floor division they call, each over the unscoped buffers. -/
def seg0 : HostSeg (Name := ℕ) (U := UR sig nD τ) (pcfgs (F := F)) defs₀ Variants.none levs (fun _ _ => (0 : ℕ)) :=
  HostSeg.ofOps pcfgs defs₀ Variants.none levs (fun _ _ => 0) (ucRefs τ sig) hostOps0
    (fun op h => sub_ucRefs op ((List.forall_iff_forall_mem.mp hostOps0_sub) op h))
    (by intro _ h; (repeat (cases h with | head => rfl | tail _ h => ?_)); exact nomatch h) (StableHlo.launchContents m) beside
def seg1 : HostSeg (Name := ℕ) (U := UR sig nD τ) (pcfgs (F := F)) defs₀ Variants.none levs (fun _ _ => (0 : ℕ)) :=
  HostSeg.ofOps pcfgs defs₀ Variants.none levs (fun _ _ => 0) (ucRefs τ sig) hostOps1
    (fun op h => sub_ucRefs op ((List.forall_iff_forall_mem.mp hostOps1_sub) op h))
    (by intro _ h; (repeat (cases h with | head => rfl | tail _ h => ?_)); exact nomatch h) (left m) beside
def seg2 : HostSeg (Name := ℕ) (U := UR sig nD τ) (pcfgs (F := F)) defs₀ Variants.none levs (fun _ _ => (0 : ℕ)) :=
  HostSeg.ofOps pcfgs defs₀ Variants.none levs (fun _ _ => 0) (ucRefs τ sig) hostOps1_1
    (fun op h => sub_ucRefs op ((List.forall_iff_forall_mem.mp hostOps1_1_sub) op h))
    (by intro _ h; (repeat (cases h with | head => rfl | tail _ h => ?_)); exact nomatch h) (fun c => StableHlo.after hostOps1 (left m c)) beside

/-- The windows' arrays and the table are unscoped buffers. -/
theorem arrs_sub : Pipeline.arrRefs (τ := τ) (pcfgs (F := F) 0).spec ⊆ ucRefs τ sig := Pipeline.arrRefs_sub_ucRefs _ (launch0 (F := F)).win.arr_unscoped
theorem tbls_sub : Pipeline.tblRefs (τ := τ) (pcfgs (F := F) 0).pre ⊆ ucRefs τ sig := Pipeline.tblRefs_sub_ucRefs _ preFacts0.unscoped

set_option backward.isDefEq.respectTransparency.types false in
/-- The region is entered from every unscoped buffer as the host operations before it leave them, -/
theorem region_pre (c : Dev nD) :
    iprop(StableHlo.held (c.tc : Thread nD τ) (ucRefs τ sig) (entry m c) ∗ beside c) ⊢ (region m).pre c := by
  unfold region
  exact RegionSeg.ofHeldInT_pre (pcs := pcfgs (F := F)) (a := fun _ => adm m) (pdats := dats m) (ι := ()) (defs₀ := defs₀) (𝒱₀ := Variants.none)
    (L := levs) (lv := fun _ _ => 0) (p := (0 : Fin 1)) (D := fun _ => 0) (S := ucRefs τ sig) arrs_sub tbls_sub
    (X := fun c => iprop(∃ r, prngReg c r)) (Y := fun c => iprop(∃ r, prngReg c r)) (kit := launch0)
    (hbody := fun c => (body_obligation m c).loose) (howed := fun _ _ => rfl) (hrec := fun _ => rfl) (hshare := share_full m)
    (hin := enter m) (hout := exit m) (b := fun _ => 0) (hcut := levs_cut m) (R := fun _ => iprop(emp)) (W := entry m)
    (hW := A_eq m) (hT := table_entry m) c

set_option backward.isDefEq.respectTransparency.types false in
/-- and left with every unscoped buffer at `left`. -/
theorem region_post (c : Dev nD) :
    (region m).post c ⊢ iprop(StableHlo.held (c.tc : Thread nD τ) (ucRefs τ sig) (left m c) ∗ beside c) := by
  unfold region left
  exact RegionSeg.ofHeldInT_post (pcs := pcfgs (F := F)) (a := fun _ => adm m) (pdats := dats m) (ι := ()) (defs₀ := defs₀) (𝒱₀ := Variants.none)
    (L := levs) (lv := fun _ _ => 0) (p := (0 : Fin 1)) (D := fun _ => 0) (S := ucRefs τ sig) arrs_sub tbls_sub
    (X := fun c => iprop(∃ r, prngReg c r)) (Y := fun c => iprop(∃ r, prngReg c r)) (kit := launch0)
    (hbody := fun c => (body_obligation m c).loose) (howed := fun _ _ => rfl) (hrec := fun _ => rfl) (hshare := share_full m)
    (hin := enter m) (hout := exit m) (b := fun _ => 0) (hcut := levs_cut m) (R := fun _ => iprop(emp)) (W := entry m)
    (hW := A_eq m) (hT := table_entry m) c

/-- Every semaphore is a staging semaphore, which the region's exit takes back at zero. -/
theorem scoped_all : ∀ sm : SemLoc sig, sm.isScoped .tc = true := by decide

set_option backward.isDefEq.respectTransparency.types false in
/-- Every execution from launch contents `m` ends, and at the end every unscoped buffer holds what the host operations compute from what the
    region left, and every semaphore counter is zero. -/
theorem run_final : θ_run (defs (F := F)) (onTc (τ := τ) main) (s₀ m ρ) fun r =>
    (∀ (c : Dev nD) (b : Ref sig .tc), b.isScoped = false → r.2.mem ((c.tc : Thread nD τ).loc b) = final m c (Proc.devRef .tc b))
      ∧ r.2.sem = fun _ => 0 := by
  classical
  refine Pipeline.θ_run_regions_kit_sems pcfgs (fun _ => adm m) (dats m) () (cellOf_inj fun _ => adm m) emb₁ defs₀ Variants.none levs (fun _ _ => 0)
    m ρ main [.host (seg0 m), .region (region m), .host (seg1 m), .host (seg2 m)]
    (fun c Q => by rw [main_chain c, Seg.run_eq_chain]; exact .rfl)
    (by simp only [Seg.pipes_host, Seg.pipes_region, Seg.pipes_nil]; exact List.nodup_singleton _)
    (O₀ := 0) (hL := fun g hg => if_neg hg)
    (G := fun _ => iprop(emp))
    (u₀ := initOf (cells (pin pcfgs fun _ => adm m) (cellOf_inj fun _ => adm m)) (launchToks (pin pcfgs fun _ => adm m) (cellOf_inj fun _ => adm m)))
    (hu₀ := by
      iintro Hu; imodintro
      isplitl [Hu]
      · iapply (show (ownU _ : sProp 𝕄) ⊢ BI.own (emb₁ (initOf (cells (pin (pcfgs (F := F)) fun _ => adm m) (cellOf_inj fun _ => adm m))
          (launchToks (pin (pcfgs (F := F)) fun _ => adm m) (cellOf_inj fun _ => adm m)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (ucRefs τ sig) (StableHlo.launchContents m c) ∗ beside c))
    (Tₙ := fun c => StableHlo.held (c.tc : Thread nD τ) (ucRefs τ sig) (final m c))
    (hch := ⟨fun _ => .rfl, region_pre m, region_post m, fun _ => .rfl,
      fun c => (show iprop(StableHlo.held (c.tc : Thread nD τ) (ucRefs τ sig) (final m c) ∗ beside c) ⊢ (_ : sProp 𝕄) from by
        iintro ⟨Hh, HO, -, -⟩
        isplitl [Hh] <;> iassumption)⟩)
    (hinit := by
      refine Pipeline.initEach levs (fun _ _ => 0) fun c => ?_
      rw [show unscopedBufs c (fun b => m ((c.tc : Thread nD τ).loc b)) = StableHlo.held (c.tc : Thread nD τ) (ucRefs τ sig) (StableHlo.launchContents m c)
          from Pipeline.unscopedBufs_held (Ix := Unit) (Name := ℕ) (U := UR sig nD τ) (Lvl := ℕ) c (StableHlo.launchContents m c)]
      iintro ⟨⟨Hh, -, HO, -, Hp, -⟩, -⟩
      imodintro
      isplitl [Hh]; · iexact Hh
      isplitl [HO]; · iexists _; iexact HO
      isplitl [Hp]; · iexists _; iexact Hp
      iempintro)
    (QY := fun c s => ∀ b ∈ ucRefs τ sig, s.mem ((c.tc : Thread nD τ).1, b) = final m c b)
    (hfin := fun c s' => by
      unfold StableHlo.held
      iintro ⟨Hh, HSI⟩
      ihave Hr := (pointsTo_read_all (ucRefs τ sig) (fun b => ((c.tc : Thread nD τ).1, b)) (final m c) s') $$ [Hh HSI]
      · isplitl [Hh] <;> iassumption
      imodintro; iexact Hr)
    (hQ := fun s h hz => ⟨fun c b hb => h c (Proc.devRef .tc b) (Pipeline.devRef_mem_ucRefs hb), ?_⟩)
  funext g
  obtain ⟨t, sm⟩ := g
  exact hz (t, sm) (.inr (scoped_all sm))

end Cert.Proof.KernelIdeal

end
-- ==== Proof.IdealFrame.lean ====
/-
  Of the idealized kernel. The arguments end as launched, and the semaphore counters at zero.
-/
module

public import proofs.«01_k».proof.Proof.IdealRun

@[expose] public section

set_option maxRecDepth 16384

noncomputable section

namespace Cert.Proof.KernelIdeal

open Cert.KernelIdeal Cert.KernelIdeal.Gen

open Idealize.ShloMosaic Idealize.ShloMosaic.TcCoe Idealize.SL.Sem

variable {F : FTy → Type} [FloatOps F]

variable (m : (ℓ : Loc nD τ sig) → Buf (Elt F) ℓ) (ρ : Dev nD → PrngReg)

/-- A buffer that no operation after the region writes ends as the region leaves it. -/
theorem final_of_tail (c : Dev nD) (b : Ref sig .tc)
    (h1 : ∀ op ∈ (hostOps1 : List (HloOp τ sig (Elt F))), (Proc.devRef .tc b : DevRef τ sig) ∉ op.writes)
    (h2 : ∀ op ∈ (hostOps1_1 : List (HloOp τ sig (Elt F))), (Proc.devRef .tc b : DevRef τ sig) ∉ op.writes) :
    final m c (Proc.devRef .tc b) = left m c (Proc.devRef .tc b) :=
  (StableHlo.after_of_forall_not_mem _ _ h2).trans (StableHlo.after_of_forall_not_mem _ _ h1)

/-- The references the operations after the region write. -/
def tailWrites : List (Ref sig .tc) :=
  [main_c, main_v2, main_v3, main_c_0, main_call0_v0, main_call0_v1, main_call0_v2, main_call0_v3, main_call0_v4, main_call0_v5, main_call0_v6,
    main_call0_v7, main_call0_v8, main_call0_c, main_call0_v9, main_call0_v10, main_call0_v11, main_call0_c_0, main_call0_v12, main_call0_v13, main_v4]

/-- A buffer not among those references ends as the region leaves it. -/
theorem final_of_not_written (c : Dev nD) (b : Ref sig .tc) (hb : ∀ r ∈ tailWrites, b ≠ r) :
    final m c (Proc.devRef .tc b) = left m c (Proc.devRef .tc b) := by
  refine final_of_tail m c b ?_ ?_
  all_goals
    refine List.forall_iff_forall_mem.mp ?_
    simp only [List.Forall, StableHlo.TRef.unary, StableHlo.TRef.binary, StableHlo.TRef.nullary, StableHlo.TRef.ternary, StableHlo.nullary_writes,
      StableHlo.unary_writes, StableHlo.binary_writes, StableHlo.ternary_writes, Finset.mem_singleton]
    repeat' apply And.intro
    all_goals exact StableHlo.devRef_ne_of_ne (hb _ (by decide))

/-- The values as launched are no array of the region's windows. -/
theorem arg0_not_arr : ∀ w, main_arg0 ≠ Pipeline.arrRef spec0 w := by decide

/-- The values end as launched. -/
theorem final_arg0 (c : Dev nD) : final m c (Proc.devRef .tc main_arg0) = m ((c : Thread nD τ).loc main_arg0) := by
  refine (final_of_not_written m c main_arg0 (by decide)).trans ?_
  refine Eq.trans ?_ (entry_arg0 m c)
  exact Pipeline.afterRegion_of_not_arr _ _ arg0_not_arr

/-- The lengths as launched are no array of the region's windows. -/
theorem arg1_not_arr : ∀ w, main_arg1 ≠ Pipeline.arrRef spec0 w := by decide

/-- The lengths end as launched. -/
theorem final_arg1 (c : Dev nD) : final m c (Proc.devRef .tc main_arg1) = m ((c : Thread nD τ).loc main_arg1) := by
  refine (final_of_not_written m c main_arg1 (by decide)).trans ?_
  refine Eq.trans (?_ : _ = entry m c (Proc.devRef .tc main_arg1)) ?_
  · exact Pipeline.afterRegion_of_not_arr _ _ arg1_not_arr
  · rw [entry_arg1]; obtain rfl : c = 0 := Subsingleton.elim _ _; rfl

/-- The program terminates from any memory without a fault, its arguments as launched and every semaphore counter at zero. -/
theorem frame_run :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun _ h => ⟨fun c => ⟨(h.1 c main_arg0 rfl).trans (final_arg0 m c), (h.1 c main_arg1 rfl).trans (final_arg1 m c)⟩, h.2⟩)
    (run_final m ρ)

end Cert.Proof.KernelIdeal

end
-- ==== Proof.Halved.lean ====
/-
  The function both programs compute, and the number each makes of its mask.

  Of a sequence's 2048 time steps the even ones are kept, 1024 of them, and of those the ones from the kept length on are zero.
-/
module

public import proofs.«01_k».proof.KernelIdeal
public import proofs.«01_k».proof.Proof.Words
public import Idealize.ShloMosaic.Lib.Pointwise

@[expose] public section

set_option maxRecDepth 16384

noncomputable section

namespace Cert.Proof

open Cert.KernelIdeal Idealize.ShloMosaic

/-- Time step `r` of sequence `b` in the result: time step `2 r` of the values where `r` is below the sequence's kept length, zero elsewhere. -/
def masked (x : S8x2048x1024.Idx → EReal) (L : S8.Idx → BitVec 32) : S8x1024x1024.Idx → EReal :=
  fun i => if ((i 1).val : ℤ) < (Words.kept (L (ix1 (i 0)))).toInt then x (ix3 (i 0) ⟨2 * (i 1).val, by have : (i 1).val < 1024 := (i 1).isLt; omega⟩ (i 2)) else 0

/-- A bit that a comparison of integers gives, widened to a word and read as a signed number: one where the comparison holds, zero elsewhere. -/
theorem sitofp_extui_ofBool (p : Prop) [Decidable p] :
    (FloatOps.sitofp (F := Ideal) .f32 (BitVec.setWidth 32 (BitVec.ofBool (decide p))) : EReal) = if p then 1 else 0 := by
  show (((BitVec.setWidth 32 (BitVec.ofBool (decide p))).toInt : ℝ) : EReal) = _
  by_cases h : p
  · rw [decide_eq_true h, if_pos h, show (BitVec.setWidth 32 (BitVec.ofBool true)).toInt = 1 from by decide]; norm_num
  · rw [decide_eq_false h, if_neg h, show (BitVec.setWidth 32 (BitVec.ofBool false)).toInt = 0 from by decide]; norm_num

/-- The same bit read as an unsigned number. -/
theorem uitofp_ofBool (p : Prop) [Decidable p] :
    (FloatOps.uitofp (F := Ideal) .f32 (BitVec.ofBool (decide p)) : EReal) = if p then 1 else 0 := by
  show (((BitVec.ofBool (decide p)).toNat : ℝ) : EReal) = _
  by_cases h : p
  · rw [decide_eq_true h, if_pos h, show (BitVec.ofBool true).toNat = 1 from by decide]; norm_num
  · rw [decide_eq_false h, if_neg h, show (BitVec.ofBool false).toNat = 0 from by decide]; norm_num

end Cert.Proof

end
-- ==== Proof.IdealValue.lean ====
/-
  What the idealized kernel's results hold: the region's output array read element by element, and the host operations after it.
-/
module

public import proofs.«01_k».proof.Proof.IdealFrame
public import proofs.«01_k».proof.Proof.Halved
public import Idealize.ShloMosaic.Lib.Pipeline.ValueKit

@[expose] public section

set_option maxRecDepth 16384

noncomputable section

namespace Cert.Proof.KernelIdeal

open Cert.KernelIdeal Cert.KernelIdeal.Gen

open Idealize.ShloMosaic Idealize.ShloMosaic.TcCoe Idealize.SL.Sem

/-- Row `r` of block `j`, computed on words, is the integer `256 j + r`. -/
theorem toInt_row (j r : ℕ) (hj : j < 4) (hr : r < 256) :
    (IntOp.addi (BitVec.ofNat 32 r) (Scalar.muli (BitVec.ofNat 32 j) 256#32)).toInt = ((256 * j + r : ℕ) : ℤ) := by
  show (BitVec.ofNat 32 r + BitVec.ofNat 32 j * BitVec.ofNat 32 256).toInt = _
  rw [← BitVec.ofNat_mul, ← BitVec.ofNat_add, WordCmp.toInt_ofNat_of_lt (by omega)]
  congr 1; omega

/-- What the body stores at row `r` and lane `k` of the output block: the element it loaded there where the row is kept, and zero times it elsewhere. -/
theorem pay_apply (i : grid0.Coords) (w : BitVec 32) (x : Vec Ideal S1x256x1024 .f32) (r : Fin 256) (k : Fin 1024) :
    k0_pay1 i w x (ix3 0 r k) = x (ix3 0 r k) * (if (((256 * (i 1).val + r.val : ℕ)) : ℤ) < (Words.kept w).toInt then 1 else 0) := by
  pointwise [k0_pay1]
  refine congrArg (x (ix3 0 r k) * ·) ?_
  refine Eq.trans ?_ (sitofp_extui_ofBool _)
  rw [← toInt_row (i 1).val r.val (i 1).isLt r.isLt]
  rfl

variable (m : (ℓ : Loc nD τ sig) → Buf (Elt Ideal) ℓ)

/-- The region finds each row of 2048 lanes as two time steps of 1024, side by side. -/
theorem entry_v0 (c : Dev nD) (b : Fin 8) (r : Fin 1024) (k : Fin 2048) :
    (entry m c (Proc.devRef .tc main_v0) : S8x1024x2048.Idx → EReal) (ix3 b r k)
      = (m ((c : Thread nD τ).loc main_arg0) : S8x2048x1024.Idx → EReal) (ix3 b ⟨r.val * 2 + k.val / 1024, by omega⟩ ⟨k.val % 1024, by omega⟩) := by
  unfold entry
  after_results
  pointwise []

/-- In the first 1024 lanes of row `r` that is time step `2 r`. -/
theorem entry_v0_low (c : Dev nD) (b : Fin 8) (r : Fin 1024) (k : Fin 1024) :
    (entry m c (Proc.devRef .tc main_v0) : S8x1024x2048.Idx → EReal) (ix3 b r ⟨k.val, by omega⟩)
      = (m ((c : Thread nD τ).loc main_arg0) : S8x2048x1024.Idx → EReal) (ix3 b ⟨2 * r.val, by omega⟩ k) := by
  refine (entry_v0 m c b r ⟨k.val, by omega⟩).trans (congrArg (m ((c : Thread nD τ).loc main_arg0) : S8x2048x1024.Idx → EReal) ?_)
  have e1 : (⟨r.val * 2 + k.val / 1024, by omega⟩ : Fin 2048) = ⟨2 * r.val, by omega⟩ := Fin.ext (by show r.val * 2 + k.val / 1024 = 2 * r.val; omega)
  have e2 : (⟨k.val % 1024, by omega⟩ : Fin 1024) = k := Fin.ext (by show k.val % 1024 = k.val; omega)
  exact congrArg₂ (ix3 b) e1 e2

/-- The second result: of each length, the kept length. -/
theorem final_v4 (c : Dev nD) : final m c (Proc.devRef .tc main_v4) = fun i => Words.hostKept (lens m i) := by
  have h : left m c (Proc.devRef .tc main_arg1) = lens m :=
    (Pipeline.afterRegion_of_not_arr _ _ arg1_not_arr).trans (entry_arg1 m c)
  unfold final
  generalize left m c = V at h
  simp only [hostOps1, hostOps1_1, StableHlo.TRef.binary, StableHlo.TRef.nullary, StableHlo.TRef.ternary, StableHlo.TRef.unary, StableHlo.TRef.toBuf, StableHlo.TRef.ofBuf, cast_eq]
  after_results_simp
  rw [h]
  rfl

/-- The first result is the output window's array as the region leaves it. -/
theorem final_v1 (c : Dev nD) : final m c (Proc.devRef .tc main_v1) = (dats m 0 c).arrAt 1 (cfgM m).N := by
  refine (final_of_not_written m c main_v1 (by decide)).trans ?_
  exact Pipeline.afterRegion_arr (dats m 0 c) (entry m c) (launch0 (F := Ideal)).win.arr_inj 1

/-- The output's blocks cover its array, whatever the table holds: the output's index map does not read it. -/
theorem out_covers : ((cfgM m).win 1).Covers := by
  let T : pre0.Contents (Elt Bits) := fun
    | 0 => fun _ => (0 : BitVec 32)
    | ⟨_ + 1, h⟩ => absurd h (Nat.not_lt.2 (Nat.le_add_left _ _))
  have h : ((cfg0 (F := Bits) ⟨T, ok_all _⟩).win 1).Covers := by decide +kernel
  exact h

/-- The block of rows the input's index map names at point `t`. -/
def rowBlock (t : Fin grid0.N) : ℕ := (Words.blockRow (word (lens m) (grid0.coords t)) (BitVec.ofNat 32 (grid0.coords t 1).val)).toNat

/-- It is a block of the array. -/
theorem rowBlock_lt (t : Fin grid0.N) : rowBlock m t < 4 :=
  lt_of_le_of_lt (Words.toNat_blockRow_le _ _ (grid0.coords t 1).isLt) (grid0.coords t 1).isLt

/-- The input's block at point `t`, by its indices. -/
theorem index_in (t : Fin (cfgM m).N) : ((cfgM m).win 0).index t = ![(BitVec.ofNat 32 (grid0.coords t 0).val).toNat, rowBlock m t, 0] :=
  transform_0_eq (table m) (grid0.coords t)

/-- Where the input's block at point `t` lies in its array: row `r` of the block is row `r` of the block of rows the index map names. -/
theorem emb_in (t : Fin (cfgM m).N) (y : S1x256x2048.Idx) (a : Fin 3) :
    (((((cfgM m).win 0).blk t).view.emb y : S8x1024x2048.Idx) a).val
      = (![(grid0.coords t 0).val, rowBlock m t * 256 + (y 1).val, (y 2).val] : Fin 3 → ℕ) a := by
  refine (Pipeline.Window.rect_emb_val ((cfgM m).win 0) t y a rfl).trans ?_
  rw [index_in]
  generalize rowBlock m t = q
  have h0 := toNat_coord0 (grid0.coords t)
  have y0 : (y 0).val < 1 := (y 0).isLt
  match a with
  | ⟨0, _⟩ => show (BitVec.ofNat 32 (grid0.coords t 0).val).toNat * 1 + (y 0).val = (grid0.coords t 0).val; omega
  | ⟨1, _⟩ => rfl
  | ⟨2, _⟩ => show 0 * 2048 + (y 2).val = (y 2).val; omega

/-- Where the output's block at point `t` lies in its array. -/
theorem emb_out (t : Fin (cfgM m).N) (y : S1x256x1024.Idx) (a : Fin 3) :
    (((((cfgM m).win 1).blk t).view.emb y : S8x1024x1024.Idx) a).val
      = (![(grid0.coords t 0).val, (grid0.coords t 1).val * 256 + (y 1).val, (y 2).val] : Fin 3 → ℕ) a := by
  refine (Pipeline.Window.rect_emb_val ((cfgM m).win 1) t y a rfl).trans ?_
  have h0 := toNat_coord0 (grid0.coords t)
  have h1 : (grid0.coords t 1).val < 4 := (grid0.coords t 1).isLt
  have h1' : (BitVec.ofNat 32 (grid0.coords t 1).val).toNat = (grid0.coords t 1).val := by rw [BitVec.toNat_ofNat]; omega
  have y0 : (y 0).val < 1 := (y 0).isLt
  match a with
  | ⟨0, _⟩ => show (BitVec.ofNat 32 (grid0.coords t 0).val).toNat * 1 + (y 0).val = (grid0.coords t 0).val; omega
  | ⟨1, _⟩ => show (BitVec.ofNat 32 (grid0.coords t 1).val).toNat * 256 + (y 1).val = (grid0.coords t 1).val * 256 + (y 1).val; omega
  | ⟨2, _⟩ => show 0 * 1024 + (y 2).val = (y 2).val; omega

/-- The length grid point `i` reads is that of the sequence its first coordinate names. -/
theorem word_eq (T : S8.Idx → BitVec 32) (i : grid0.Coords) : word (F := Ideal) T i = T (ix1 (i 0)) := by
  refine congrArg T (funext fun a => Fin.ext ?_)
  have h := toNat_coord0 i
  match a with
  | ⟨0, _⟩ => show (BitVec.ofNat 32 (i 0).val).toNat + 1 * 0 = (i 0).val; omega

/-- Two indices of the input's array with the same coordinates are one. -/
theorem idx_ext_in (u v : S8x1024x2048.Idx) (h : ∀ a : Fin 3, (u a).val = (v a).val) : u = v := funext fun a => Fin.ext (h a)

/-- An element of the input block read at point `t`, in the first 1024 lanes: an even time step of the values as launched. -/
theorem lanes_iblk (c : Dev nD) (t : Fin (cfgM m).N) (r : Fin 256) (k : Fin 1024) (q : ℕ) (hq : q < 4) (hqt : rowBlock m t = q) :
    lanes (F := Ideal) (iblk m c 0 t) (ix3 0 r k)
      = (m ((c : Thread nD τ).loc main_arg0) : S8x2048x1024.Idx → EReal) (ix3 (grid0.coords t 0) ⟨2 * (q * 256 + r.val), by omega⟩ k) := by
  show (entry m c (Proc.devRef .tc main_v0) : S8x1024x2048.Idx → EReal) ((((cfgM m).win 0).blk t).view.emb
    ((Rect.unit (s := S1x256x2048) ![0, 0, 0] S1x256x1024.size inb_S1x256x2048_S1x256x1024_0_0_0).emb (ix3 0 r k))) = _
  obtain ⟨y, hy, hy1, hy2⟩ : ∃ y : S1x256x2048.Idx, y = (Rect.unit (s := S1x256x2048) ![0, 0, 0] S1x256x1024.size inb_S1x256x2048_S1x256x1024_0_0_0).emb (ix3 0 r k)
      ∧ (y 1).val = r.val ∧ (y 2).val = k.val :=
    ⟨_, rfl, by show 0 + 1 * r.val = r.val; omega, by show 0 + 1 * k.val = k.val; omega⟩
  rw [← hy]
  have hemb : (((cfgM m).win 0).blk t).view.emb y
      = (ix3 (grid0.coords t 0) ⟨q * 256 + r.val, by omega⟩ ⟨k.val, by omega⟩ : S8x1024x2048.Idx) := by
    refine idx_ext_in _ _ fun a => ?_
    have h := emb_in m t y a
    rw [hqt, hy1, hy2] at h
    refine h.trans ?_
    clear h
    match a with
    | ⟨0, _⟩ => rfl
    | ⟨1, _⟩ => rfl
    | ⟨2, _⟩ => rfl
  rw [hemb]
  exact entry_v0_low m c (grid0.coords t 0) ⟨q * 256 + r.val, by omega⟩ k

/-- An index of a block of the output, by its row and its lane. -/
theorem blk_idx (y : S1x256x1024.Idx) : ∃ (r : Fin 256) (k : Fin 1024), y = ix3 0 r k := by
  refine ⟨y 1, y 2, ?_⟩
  have h : (y 0).val < 1 := (y 0).isLt
  funext a
  match a with
  | ⟨0, _⟩ => exact Fin.ext (by show (y 0).val = 0; omega)
  | ⟨1, _⟩ => rfl
  | ⟨2, _⟩ => rfl

/-- What point `t` leaves at row `r` and lane `k` of its block is the value the whole array is to hold there. -/
theorem oblk_apply (c : Dev nD) (t : Fin (cfgM m).N) (r : Fin 256) (k : Fin 1024) (h1 : (grid0.coords t 1).val < 4) :
    oblk m c t (ix3 0 r k) = masked (m ((c : Thread nD τ).loc main_arg0)) (lens m)
      (ix3 (grid0.coords t 0) ⟨(grid0.coords t 1).val * 256 + r.val, by omega⟩ k) := by
  refine (pay_apply (grid0.coords t) (word (lens m) (grid0.coords t)) (lanes (iblk m c 0 t)) r k).trans ?_
  unfold masked
  have hw := word_eq (lens m) (grid0.coords t)
  by_cases hk : ((256 * (grid0.coords t 1).val + r.val : ℕ) : ℤ) < (Words.kept (word (lens m) (grid0.coords t))).toInt
  · rw [if_pos hk, mul_one, lanes_iblk m c t r k _ h1 (Words.toNat_blockRow_of_kept _ _ _ h1 r.isLt hk)]
    refine Eq.trans ?_ (if_pos ?_).symm
    · rfl
    · show (((grid0.coords t 1).val * 256 + r.val : ℕ) : ℤ) < (Words.kept (lens m (ix1 (grid0.coords t 0)))).toInt
      rw [← hw]; omega
  · rw [if_neg hk, mul_zero]
    refine (if_neg ?_).symm
    show ¬ (((grid0.coords t 1).val * 256 + r.val : ℕ) : ℤ) < (Words.kept (lens m (ix1 (grid0.coords t 0)))).toInt
    rw [← hw]; omega

/-- The result array after the region, whole. -/
theorem arr_out (c : Dev nD) : (dats m 0 c).arrAt 1 (cfgM m).N = masked (m ((c : Thread nD τ).loc main_arg0)) (lens m) := by
  refine (dats m 0 c).arrAt_eq_of_covers 1 _ (out_covers m) fun t hf y => ?_
  rw [after_1]
  blk_simp
  have h1 : (grid0.coords t 1).val < 4 := (grid0.coords t 1).isLt
  obtain ⟨r, k, hy⟩ := blk_idx y
  rw [hy]
  refine (oblk_apply m c t r k h1).trans (congrArg (masked (m ((c : Thread nD τ).loc main_arg0)) (lens m)) ?_)
  funext a
  refine Fin.ext (Eq.trans ?_ (emb_out m t (ix3 0 r k) a).symm)
  match a with
  | ⟨0, _⟩ => rfl
  | ⟨1, _⟩ => rfl
  | ⟨2, _⟩ => rfl

/-- The first result, from the arguments as launched. -/
theorem final_result (c : Dev nD) : final m c (Proc.devRef .tc main_v1) = masked (m ((c : Thread nD τ).loc main_arg0)) (lens m) :=
  (final_v1 m c).trans (arr_out m c)

/-- The idealized kernel terminates from any memory without a fault, with both results as computed from its arguments and the arguments as launched. -/
theorem value_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = masked (m ((c : Thread nD τ).loc main_arg0)) (lens m)
      ∧ r.2.mem ((c.tc : Thread nD τ).loc main_v4) = (fun i => Words.hostKept (lens m i))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h.1 c main_v1 rfl).trans (final_result m c), (h.1 c main_v4 rfl).trans (final_v4 m c),
      (h.1 c main_arg0 rfl).trans (final_arg0 m c), (h.1 c main_arg1 rfl).trans (final_arg1 m c)⟩)
    (run_final m ρ)

end Cert.Proof.KernelIdeal

end
-- ==== Proof.Reference.lean ====
/-
  What the idealized reference's results hold, element by element.
-/
module

public import proofs.«01_k».proof.Proof.Gen.ReferenceIdeal.Run
public import proofs.«01_k».proof.Proof.Halved

@[expose] public section

set_option maxRecDepth 16384

noncomputable section

namespace Cert.Proof.ReferenceIdeal

open Cert.ReferenceIdeal Cert.ReferenceIdeal.Gen

open Idealize.ShloMosaic Idealize.ShloMosaic.TcCoe Idealize.SL.Sem

/-- A time step's number, as a word, is that number. -/
theorem toInt_step (r : ℕ) (hr : r < 1024) : (BitVec.ofNat 32 r).toInt = (r : ℤ) := WordCmp.toInt_ofNat_of_lt (by omega)

/-- The reference's product of the even time steps with the mask of the kept ones, at any kept lengths `K`. -/
theorem product_apply (x : FVec Ideal S8x2048x1024 .f32) (K : IVec S8 32) (b : Fin 8) (r : Fin 1024) (k : Fin 1024) :
    mulf (Host.slice S8x1024x1024 ![0, 0, 0] ![1, 2, 1] x slicesBy_S8x2048x1024_S8x1024x1024_0s1_0s2_0s1)
      (broadcastInDim S8x1024x1024 ![0, 1, 2] bcast_S8x1024x1_S8x1024x1024_0_1_2 (uitofp .f32 (broadcastInDim S8x1024x1 ![0, 1] bcast_S8x1024_S8x1024x1_0_1
        (cmpi .slt (broadcastInDim S8x1024 ![0, 1] bcast_S1x1024_S8x1024_0_1 (broadcastInDim S1x1024 ![1] bcast_S1024_S1x1024_1 (iotaInDim S1024 32 0)))
          (broadcastInDim S8x1024 ![0, 1] bcast_S8x1_S8x1024_0_1 (broadcastInDim S8x1 ![0] bcast_S8_S8x1_0 K)))))) (ix3 b r k)
      = x (ix3 b ⟨2 * r.val, by omega⟩ k) * (if (r.val : ℤ) < (K (ix1 b)).toInt then 1 else 0) := by
  pointwise []
  refine congrArg (x (ix3 b ⟨2 * r.val, by omega⟩ k) * ·) ?_
  refine Eq.trans ?_ (uitofp_ofBool _)
  rw [← toInt_step r.val r.isLt]
  rfl

/-- With the lengths the reference computes as `K`, that product is the function `masked`. -/
theorem product_eq (x : FVec Ideal S8x2048x1024 .f32) (L : IVec S8 32) (K : IVec S8 32) (hK : ∀ i, K i = Words.hostKept (L i)) :
    mulf (Host.slice S8x1024x1024 ![0, 0, 0] ![1, 2, 1] x slicesBy_S8x2048x1024_S8x1024x1024_0s1_0s2_0s1)
      (broadcastInDim S8x1024x1024 ![0, 1, 2] bcast_S8x1024x1_S8x1024x1024_0_1_2 (uitofp .f32 (broadcastInDim S8x1024x1 ![0, 1] bcast_S8x1024_S8x1024x1_0_1
        (cmpi .slt (broadcastInDim S8x1024 ![0, 1] bcast_S1x1024_S8x1024_0_1 (broadcastInDim S1x1024 ![1] bcast_S1024_S1x1024_1 (iotaInDim S1024 32 0)))
          (broadcastInDim S8x1024 ![0, 1] bcast_S8x1_S8x1024_0_1 (broadcastInDim S8x1 ![0] bcast_S8_S8x1_0 K))))))
      = masked x L := by
  funext i
  obtain ⟨b, r, k, rfl⟩ : ∃ (b : Fin 8) (r k : Fin 1024), i = ix3 b r k :=
    ⟨i 0, i 1, i 2, funext fun (a : Fin 3) => match a with | ⟨0, _⟩ => rfl | ⟨1, _⟩ => rfl | ⟨2, _⟩ => rfl⟩
  rw [product_apply, hK, ← Words.kept_eq_hostKept]
  unfold masked
  by_cases h : (r.val : ℤ) < (Words.kept (L (ix1 b))).toInt
  · rw [if_pos h, mul_one]; exact (if_pos h).symm
  · rw [if_neg h, mul_zero]; exact (if_neg h).symm

/-- The reference terminates from any memory without a fault, with both results as computed from its arguments and the arguments as launched. -/
theorem value_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = masked (m ((c.tc : Thread nD τ).loc main_arg0)) (m ((c.tc : Thread nD τ).loc main_arg1))
      ∧ r.2.mem ((c.tc : Thread nD τ).loc main_v3) = (fun i => Words.hostKept ((m ((c.tc : Thread nD τ).loc main_arg1) : S8.Idx → BitVec 32) i))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (product_eq _ _ _ fun _ => rfl), (h c).2.1.trans rfl, (h c).2.2.1, (h c).2.2.2⟩)
    (Cert.ReferenceIdeal.Value.run m ρ)

/-- The same run, with every semaphore counter at zero at the end. -/
theorem frame_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun r h => ⟨fun c => (h c).2.2, sem_eq_zero_of_no_sems (by decide) r.2⟩) (value_run m ρ)

end Cert.Proof.ReferenceIdeal

end
-- ==== Proof.lean ====
/-
  The proof of `Cert.Claim` (proofs.«01_k».proof.Defs): the frames of the three programs, and the equation of the idealized kernel with the
  idealized reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.MachineFrame
public import proofs.«01_k».proof.Proof.IdealValue
public import proofs.«01_k».proof.Proof.Reference
public import Idealize.ShloMosaic.Adequacy
public import Idealize.ShloMosaic.Init

@[expose] public section

noncomputable section

namespace Cert.Proof

open Idealize.ShloMosaic Idealize.SL.Sem

/-- From memories that agree on the arguments, the idealized kernel and the idealized reference end with equal results: of each sequence the
    even time steps, zero from the kept length on, and the kept lengths. -/
theorem equal_results : Cert.algebraic_KernelIdeal_ReferenceIdeal := by
  intro m g m' g' _ hm
  refine ⟨fun c => masked (m (c.tc.loc Cert.KernelIdeal.main_arg0)) (KernelIdeal.lens m), fun _ i => Words.hostKept (KernelIdeal.lens m i),
    KernelIdeal.value_run m g, (θ_run Cert.ReferenceIdeal.defs _ _).mono (fun r h c => ?_) (ReferenceIdeal.value_run m' g')⟩
  obtain ⟨h0, h1, ha⟩ := h c
  obtain rfl : c = 0 := Subsingleton.elim _ _
  have e0 := (hm 0).1
  have e1 := (hm 0).2
  refine ⟨h0.trans ?_, h1.trans ?_, ha⟩
  · exact congrArg₂ masked e0 e1
  · exact congrArg (fun (L : Cert.KernelIdeal.S8.Idx → BitVec 32) i => Words.hostKept (L i)) e1

/-- Everything claimed: the three frames, the idealization, and the equation. -/
theorem claim : Cert.Claim := ⟨Cert.Kernel.Gen.facts, Cert.KernelIdeal.Gen.facts, Cert.ReferenceIdeal.Gen.facts,
  fun m g _ => Kernel.frame_run m g, fun m g _ => KernelIdeal.frame_run m g, fun m g _ => ReferenceIdeal.frame_run m g, trivial, equal_results⟩

end Cert.Proof

end
